-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre_scale [hPre_pre_scale : Cert.Pre_pre_scale.Facts] (m : (ℓ : Loc Cert.KernelIdeal.nD Cert.KernelIdeal.τ Cert.KernelIdeal.sig) → Buf (Elt Ideal) ℓ) : Prop :=
  ∀ c : Dev Cert.KernelIdeal.nD,
    (Cert.Pre_pre_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_scale [hPre_pre_scale : Cert.Pre_pre_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre_scale [hKernelIdeal : Cert.KernelIdeal.Facts] [hPre_pre_scale : Cert.Pre_pre_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre_scale [hReferenceIdeal : Cert.ReferenceIdeal.Facts] [hPre_pre_scale : Cert.Pre_pre_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre_scale [hKernelIdeal : Cert.KernelIdeal.Facts] [hReferenceIdeal : Cert.ReferenceIdeal.Facts] [hPre_pre_scale : Cert.Pre_pre_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre_scale : Cert.Pre_pre_scale.Facts),
    quiescent_Kernel (hKernel := hKernel)
    ∧ quiescent_KernelIdeal (hKernelIdeal := hKernelIdeal)
    ∧ quiescent_KernelIdeal_pre_pre_scale (hKernelIdeal := hKernelIdeal) (hPre_pre_scale := hPre_pre_scale)
    ∧ quiescent_ReferenceIdeal (hReferenceIdeal := hReferenceIdeal)
    ∧ quiescent_ReferenceIdeal_pre_pre_scale (hReferenceIdeal := hReferenceIdeal) (hPre_pre_scale := hPre_pre_scale)
    ∧ preserves_Kernel_KernelIdeal
    ∧ algebraic_KernelIdeal_ReferenceIdeal_pre_pre_scale (hKernelIdeal := hKernelIdeal) (hReferenceIdeal := hReferenceIdeal) (hPre_pre_scale := hPre_pre_scale)
-- ==== Pre_pre_scale.lean ====
abbrev S16384x12288 : Shape := ⟨2, ![16384, 12288]⟩
abbrev S16384x3 : Shape := ⟨2, ![16384, 3]⟩
abbrev S4096x12288 : Shape := ⟨2, ![4096, 12288]⟩
abbrev S4096 : Shape := ⟨1, ![4096]⟩
abbrev S16384x4096 : Shape := ⟨2, ![16384, 4096]⟩
abbrev S_ : Shape := ⟨0, ![]⟩

class Facts : Prop where
  bcast_S_S16384x3 : S_.BroadcastsInDim S16384x3 (![] : Fin 0 → Fin S16384x3.rank)

variable [Facts]

def fn {F : FTy → Type} [FloatOps F] (main_arg0 : FVec F S16384x12288 .fp8e5m2) (main_arg1 : FVec F S16384x3 .f32) (main_arg2 : FVec F S4096x12288 .fp8e4m3) (main_arg3 : FVec F S4096 .f32) (main_arg4 : FVec F S16384x4096 .f32) : IVec S16384x3 1 :=
  let main_cst : FVec F S_ .f32 := constant S_ .f32 0x00000000#32
  let main_v0 : FVec F S16384x3 .f32 := broadcastInDim S16384x3 ![] bcast_S_S16384x3 main_cst
  let main_v1 : IVec S16384x3 1 := cmpf .oge main_arg1 main_v0
  let main_cst_0 : FVec F S_ .f32 := constant S_ .f32 0x7F800000#32
  let main_v2 : FVec F S16384x3 .f32 := broadcastInDim S16384x3 ![] bcast_S_S16384x3 main_cst_0
  let main_v3 : IVec S16384x3 1 := cmpf .olt main_arg1 main_v2
  let main_v4 : IVec S16384x3 1 := andi main_v1 main_v3
  main_v4
-- ==== Kernel.lean ====
abbrev S16384x12288 : Shape := ⟨2, ![16384, 12288]⟩
abbrev S16384x3 : Shape := ⟨2, ![16384, 3]⟩
abbrev S4096x12288 : Shape := ⟨2, ![4096, 12288]⟩
abbrev S4096 : Shape := ⟨1, ![4096]⟩
abbrev S16384x4096 : Shape := ⟨2, ![16384, 4096]⟩
abbrev S1x4096 : Shape := ⟨2, ![1, 4096]⟩
abbrev S1024x12288 : Shape := ⟨2, ![1024, 12288]⟩
abbrev S1024x3 : Shape := ⟨2, ![1024, 3]⟩
abbrev S512x12288 : Shape := ⟨2, ![512, 12288]⟩
abbrev S1x512 : Shape := ⟨2, ![1, 512]⟩
abbrev S1024x512 : Shape := ⟨2, ![1024, 512]⟩
abbrev S1024x4096 : Shape := ⟨2, ![1024, 4096]⟩
abbrev S512x4096 : Shape := ⟨2, ![512, 4096]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x12288, .fp8e5m2⟩
  | .hbm, ⟨1, _⟩ => ⟨S16384x3, .f32⟩
  | .hbm, ⟨2, _⟩ => ⟨S4096x12288, .fp8e4m3⟩
  | .hbm, ⟨3, _⟩ => ⟨S4096, .f32⟩
  | .hbm, ⟨4, _⟩ => ⟨S16384x4096, .f32⟩
  | .hbm, ⟨5, _⟩ => ⟨S1x4096, .f32⟩
  | .hbm, ⟨6, _⟩ => ⟨S16384x4096, .bf16⟩
  | .local _ .vmem, ⟨0, _⟩ => ⟨S1024x12288, .fp8e5m2⟩
  | .local _ .vmem, ⟨1, _⟩ => ⟨S1024x12288, .fp8e5m2⟩
  | .local _ .vmem, ⟨2, _⟩ => ⟨S1024x3, .f32⟩
  | .local _ .vmem, ⟨3, _⟩ => ⟨S1024x3, .f32⟩
  | .local _ .vmem, ⟨4, _⟩ => ⟨S512x12288, .fp8e4m3⟩
  | .local _ .vmem, ⟨5, _⟩ => ⟨S512x12288, .fp8e4m3⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S16384x12288, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x12288 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x12288 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x12288 : Shape := ⟨2, ![16384, 12288]⟩
abbrev S16384x3 : Shape := ⟨2, ![16384, 3]⟩
abbrev S4096x12288 : Shape := ⟨2, ![4096, 12288]⟩
abbrev S4096 : Shape := ⟨1, ![4096]⟩
abbrev S16384x4096 : Shape := ⟨2, ![16384, 4096]⟩
abbrev S1x4096 : Shape := ⟨2, ![1, 4096]⟩
abbrev S16384x3x4096 : Shape := ⟨3, ![16384, 3, 4096]⟩
abbrev S16384x3x1 : Shape := ⟨3, ![16384, 3, 1]⟩

abbrev nBuf : Space → Nat
  | .hbm => 7
  | .vmem => 6
  | .smem => 0
  | _ => 0

abbrev bufTy : (tb : Table) → Fin (tcTables nBuf tb) → BufTy
  | .hbm, ⟨0, _⟩ => ⟨S16384x12288, .fp8e5m2⟩
  | .hbm, ⟨1, _⟩ => ⟨S16384x3, .f32⟩
  | .hbm, ⟨2, _⟩ => ⟨S4096x12288, .fp8e4m3⟩
  | .hbm, ⟨3, _⟩ => ⟨S4096, .f32⟩
  | .hbm, ⟨4, _⟩ => ⟨S16384x4096, .f32⟩
  | .hbm, ⟨5, _⟩ => ⟨S1x4096, .f32⟩
  | .hbm, ⟨6, _⟩ => ⟨S16384x4096, .bf16⟩
  | .local _ .vmem, ⟨0, _⟩ => ⟨S16384x12288, .fp8e5m2⟩
  | .local _ .vmem, ⟨1, _⟩ => ⟨S16384x3, .f32⟩
  | .local _ .vmem, ⟨2, _⟩ => ⟨S4096x12288, .fp8e4m3⟩
  | .local _ .vmem, ⟨3, _⟩ => ⟨S1x4096, .f32⟩
  | .local _ .vmem, ⟨4, _⟩ => ⟨S16384x4096, .f32⟩
  | .local _ .vmem, ⟨5, _⟩ => ⟨S16384x4096, .bf16⟩
  | _, _ => ⟨S16384x12288, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x12288 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Payload.lean ====
/-
  What each body computes, entry by entry, over the extended reals. The matmul body stores, at row `r` and column `n` of its
  block, the three partial products of 4096 terms, each times its own row scale, summed, times the column's weight scale, plus
  the highway term. The reference scales every code first and takes one product of 12288 terms.
-/
module

public import proofs.«01_k».proof.Proof.Gen.KernelIdeal.Skeleton
public import proofs.«01_k».proof.Proof.Gen.ReferenceIdeal.Skeleton
public import Idealize.ShloMosaic.Lib.Pointwise

@[expose] public section

set_option maxRecDepth 16384

noncomputable section

open Idealize.ShloMosaic

namespace Cert.KernelIdeal.RefValue

open Cert.KernelIdeal Cert.KernelIdeal.Gen

/-- The kernel's stored block at row `r`, column `n`. -/
theorem pay_apply (v0 : Vec Ideal S1024x4096 .fp8e5m2) (v1 : Vec Ideal S512x4096 .fp8e4m3) (v3 : Vec Ideal S1024x1 .f32)
    (v6 : Vec Ideal S1024x4096 .fp8e5m2) (v7 : Vec Ideal S512x4096 .fp8e4m3) (v9 : Vec Ideal S1024x1 .f32)
    (v13 : Vec Ideal S1024x4096 .fp8e5m2) (v14 : Vec Ideal S512x4096 .fp8e4m3) (v16 : Vec Ideal S1024x1 .f32)
    (v20 : Vec Ideal S1x512 .f32) (v24 : Vec Ideal S1024x512 .f32) (r : Fin 1024) (n : Fin 512) :
    k0_pay1 v0 v1 v3 v6 v7 v9 v13 v14 v16 v20 v24 (ix2 r n)
      = ((∑ k : Fin 4096, v0 (ix2 r k) * v1 (ix2 n k)) * v3 (ix2 r 0)
          + (∑ k : Fin 4096, v6 (ix2 r k) * v7 (ix2 n k)) * v9 (ix2 r 0)
          + (∑ k : Fin 4096, v13 (ix2 r k) * v14 (ix2 n k)) * v16 (ix2 r 0)) * v20 (ix2 0 n) + v24 (ix2 r n) := by
  pointwise [k0_pay1]

end Cert.KernelIdeal.RefValue

namespace Cert.ReferenceIdeal.RefValue

open Cert.ReferenceIdeal Cert.ReferenceIdeal.Gen

/-- Which of the three parts column `k` of the codes lies in. -/
abbrev part (k : Fin 12288) : Fin 3 := ⟨k.val / 4096, by omega⟩

/-- The reference's stored array at row `r`, column `n`. -/
theorem pay_apply (v0 : Vec Ideal S16384x12288 .fp8e5m2) (v3 : Vec Ideal S16384x3 .f32) (v9 : Vec Ideal S4096x12288 .fp8e4m3)
    (v12 : Vec Ideal S1x4096 .f32) (v16 : Vec Ideal S16384x4096 .f32) (r : Fin 16384) (n : Fin 4096) :
    k0_pay1 v0 v3 v9 v12 v16 (ix2 r n)
      = (∑ k : Fin 12288, (v0 (ix2 r k) * v3 (ix2 r (part k))) * v9 (ix2 n k)) * v12 (ix2 0 n) + v16 (ix2 r n) := by
  pointwise [k0_pay1]

end Cert.ReferenceIdeal.RefValue
-- ==== Proof.KernelValue.lean ====
/-
  The matmul call's result array as one function of its arguments. Grid point `t` of the 16 by 8 grid writes the block of 1024
  rows and 512 columns at block row `t / 8` and block column `t % 8`; the 128 blocks cover the array.
-/
module

public import proofs.«01_k».proof.Proof.Payload
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (m : (ℓ : Loc nD τ sig) → Buf (Elt Ideal) ℓ) (ρ : Dev nD → PrngReg)

/-- Column `k` of part `p` among the 12288 columns of the codes. -/
abbrev col (p : Fin 3) (k : Fin 4096) : Fin 12288 := ⟨p.val * 4096 + k.val, by omega⟩

/-- One part of the product at row `r`, column `n`: 4096 products of codes, then the part's row scale. -/
def term (codes : Vec Ideal S16384x12288 .fp8e5m2) (scale : Vec Ideal S16384x3 .f32) (w : Vec Ideal S4096x12288 .fp8e4m3)
    (r : Fin 16384) (n : Fin 4096) (p : Fin 3) : EReal :=
  (∑ k : Fin 4096, codes (ix2 r (col p k)) * w (ix2 n (col p k))) * scale (ix2 r p)

/-- The array the call returns. -/
def out (codes : Vec Ideal S16384x12288 .fp8e5m2) (scale : Vec Ideal S16384x3 .f32) (w : Vec Ideal S4096x12288 .fp8e4m3)
    (ws : Vec Ideal S4096 .f32) (dxhw : Vec Ideal S16384x4096 .f32) : Vec Ideal S16384x4096 .bf16 := fun i =>
  (term codes scale w (i 0) (i 1) 0 + term codes scale w (i 0) (i 1) 1 + term codes scale w (i 0) (i 1) 2) * ws (ix1 (i 1))
    + dxhw (ix2 (i 0) (i 1))

theorem idx0 : ∀ t : Fin cfg0.N, win0_0.index t = ![t.val / 8, 0] :=
  (by decide +kernel : ∀ t : Fin grid0.N, win0_0.index t = ![t.val / 8, 0])
theorem idx1 : ∀ t : Fin cfg0.N, win0_1.index t = ![t.val / 8, 0] :=
  (by decide +kernel : ∀ t : Fin grid0.N, win0_1.index t = ![t.val / 8, 0])
theorem idx2 : ∀ t : Fin cfg0.N, win0_2.index t = ![t.val % 8, 0] :=
  (by decide +kernel : ∀ t : Fin grid0.N, win0_2.index t = ![t.val % 8, 0])
theorem idx3 : ∀ t : Fin cfg0.N, win0_3.index t = ![0, t.val % 8] :=
  (by decide +kernel : ∀ t : Fin grid0.N, win0_3.index t = ![0, t.val % 8])
theorem idx4 : ∀ t : Fin cfg0.N, win0_4.index t = ![t.val / 8, t.val % 8] :=
  (by decide +kernel : ∀ t : Fin grid0.N, win0_4.index t = ![t.val / 8, t.val % 8])
theorem idx5 : ∀ t : Fin cfg0.N, win0_5.index t = ![t.val / 8, t.val % 8] :=
  (by decide +kernel : ∀ t : Fin grid0.N, win0_5.index t = ![t.val / 8, t.val % 8])

/-- The array row and column of row `r` and column `n` of point `t`'s block. -/
abbrev rowOf (t : Fin cfg0.N) (r : Fin 1024) : Fin 16384 :=
  ⟨t.val / 8 * 1024 + r.val, by have := t.isLt; have : cfg0.N = 128 := N_0; omega⟩
abbrev colOf (t : Fin cfg0.N) (n : Fin 512) : Fin 4096 := ⟨t.val % 8 * 512 + n.val, by omega⟩

theorem blk0 (c : Dev nD) (t : Fin cfg0.N) (r : Fin 1024) (k : Fin 12288) :
    iblk m c 0 t (ix2 r k) = m ((c : Thread nD τ).loc main_arg0) (ix2 (rowOf t r) k) := by
  blk_simp [iblk]
  show V m c main_arg0 _ = _
  rw [V_main_arg0]
  congr 1
  blk_ext [idx0]

theorem blk1 (c : Dev nD) (t : Fin cfg0.N) (r : Fin 1024) (k : Fin 3) :
    iblk m c 1 t (ix2 r k) = m ((c : Thread nD τ).loc main_arg1) (ix2 (rowOf t r) k) := by
  blk_simp [iblk]
  show V m c main_arg1 _ = _
  rw [V_main_arg1]
  congr 1
  blk_ext [idx1]

theorem blk2 (c : Dev nD) (t : Fin cfg0.N) (n : Fin 512) (k : Fin 12288) :
    iblk m c 2 t (ix2 n k) = m ((c : Thread nD τ).loc main_arg2) (ix2 (colOf t n) k) := by
  blk_simp [iblk]
  show V m c main_arg2 _ = _
  rw [V_main_arg2]
  congr 1
  blk_ext [idx2]

/-- A vector of 4096 entries reshaped to one row, read at a column. -/
theorem row_cast (x : FVec Ideal S4096 .f32) (n : Fin 4096) :
    shapeCast S1x4096 x shapeCasts_S4096_S1x4096 (ix2 0 n) = x (ix1 n) := by
  pointwise []

/-- The weight scales arrive as one row: the call's operand is the argument reshaped to 1 by 4096. -/
theorem V_row (c : Dev nD) (n : Fin 4096) :
    V m c main_v0 (ix2 0 n) = m ((c : Thread nD τ).loc main_arg3) (ix1 n) := by
  have e : V m c main_v0 = shapeCast S1x4096 (m ((c : Thread nD τ).loc main_arg3)) shapeCasts_S4096_S1x4096 := by
    rfl
  rw [e]
  exact row_cast _ n

theorem blk3 (c : Dev nD) (t : Fin cfg0.N) (n : Fin 512) :
    iblk m c 3 t (ix2 0 n) = m ((c : Thread nD τ).loc main_arg3) (ix1 (colOf t n)) := by
  blk_simp [iblk]
  rw [← V_row m c]
  show V m c main_v0 _ = _
  congr 1
  blk_ext [idx3]

theorem blk4 (c : Dev nD) (t : Fin cfg0.N) (r : Fin 1024) (n : Fin 512) :
    iblk m c 4 t (ix2 r n) = m ((c : Thread nD τ).loc main_arg4) (ix2 (rowOf t r) (colOf t n)) := by
  blk_simp [iblk]
  show V m c main_arg4 _ = _
  rw [V_main_arg4]
  congr 1
  blk_ext [idx4]

theorem hz : (![0, 0] : Fin 2 → Nat) = fun _ => 0 := funext fun a => by fin_cases a <;> rfl

/-- The body's block at row `r`, column `n`, over its input blocks. -/
theorem out0_apply (x0 : Vec Ideal S1024x12288 .fp8e5m2) (x1 : Vec Ideal S1024x3 .f32) (x2 : Vec Ideal S512x12288 .fp8e4m3)
    (x3 : Vec Ideal S1x512 .f32) (x4 : Vec Ideal S1024x512 .f32) (r : Fin 1024) (n : Fin 512) :
    out0_5 x0 x1 x2 x3 x4 (ix2 r n)
      = ((∑ k : Fin 4096, x0 (ix2 r (col 0 k)) * x2 (ix2 n (col 0 k))) * x1 (ix2 r 0)
          + (∑ k : Fin 4096, x0 (ix2 r (col 1 k)) * x2 (ix2 n (col 1 k))) * x1 (ix2 r 1)
          + (∑ k : Fin 4096, x0 (ix2 r (col 2 k)) * x2 (ix2 n (col 2 k))) * x1 (ix2 r 2)) * x3 (ix2 0 n) + x4 (ix2 r n) := by
  unfold out0_5
  rw [View.canon_unit_zero hz, pay_apply, View.ld_unit_zero hz, View.ld_unit_zero hz]
  pointwise [col]

/-- The call's result array, after the run. -/
theorem final_o (c : Dev nD) : (dats m 0 c).arrAt 5 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, n, hy⟩ : ∃ (r : Fin 1024) (n : Fin 512), y = ix2 r n := ⟨y 0, y 1, eq_ix2 (n0 := 1024) (n1 := 512) y⟩
  subst hy
  have e : (win0_5.blk t).view.emb (ix2 r n) = ix2 (rowOf t r) (colOf t n) := by
    blk_ext [idx5]
  rw [e, out0_apply]
  simp only [blk0, blk1, blk2, blk3, blk4]
  rfl

end Cert.KernelIdeal.RefValue
-- ==== Proof.RefValue.lean ====
/-
  The reference's result array as one function of its arguments: its one grid point writes the whole array.
-/
module

public import proofs.«01_k».proof.Proof.Payload
public import proofs.«01_k».proof.Proof.Gen.ReferenceIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable (m : (ℓ : Loc nD τ sig) → Buf (Elt Ideal) ℓ) (ρ : Dev nD → PrngReg)

/-- The array the reference returns: every code times its row's scale for its part, one product of 12288 terms, times the
    column's weight scale, plus the highway term. -/
def out (codes : Vec Ideal S16384x12288 .fp8e5m2) (scale : Vec Ideal S16384x3 .f32) (w : Vec Ideal S4096x12288 .fp8e4m3)
    (ws : Vec Ideal S4096 .f32) (dxhw : Vec Ideal S16384x4096 .f32) : Vec Ideal S16384x4096 .bf16 := fun i =>
  (∑ k : Fin 12288, (codes (ix2 (i 0) k) * scale (ix2 (i 0) (part k))) * w (ix2 (i 1) k)) * ws (ix1 (i 1)) + dxhw (ix2 (i 0) (i 1))

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])

theorem blk0 (c : Dev nD) (t : Fin cfg0.N) (r : Fin 16384) (k : Fin 12288) :
    iblk m c 0 t (ix2 r k) = m ((c : Thread nD τ).loc main_arg0) (ix2 r k) := by
  blk_simp [iblk]
  show V m c main_arg0 _ = _
  rw [V_main_arg0]
  congr 1
  blk_ext [idx0]

theorem blk1 (c : Dev nD) (t : Fin cfg0.N) (r : Fin 16384) (k : Fin 3) :
    iblk m c 1 t (ix2 r k) = m ((c : Thread nD τ).loc main_arg1) (ix2 r k) := by
  blk_simp [iblk]
  show V m c main_arg1 _ = _
  rw [V_main_arg1]
  congr 1
  blk_ext [idx1]

theorem blk2 (c : Dev nD) (t : Fin cfg0.N) (n : Fin 4096) (k : Fin 12288) :
    iblk m c 2 t (ix2 n k) = m ((c : Thread nD τ).loc main_arg2) (ix2 n k) := by
  blk_simp [iblk]
  show V m c main_arg2 _ = _
  rw [V_main_arg2]
  congr 1
  blk_ext [idx2]

/-- A vector of 4096 entries reshaped to one row, read at a column. -/
theorem row_cast (x : FVec Ideal S4096 .f32) (n : Fin 4096) :
    shapeCast S1x4096 x shapeCasts_S4096_S1x4096 (ix2 0 n) = x (ix1 n) := by
  pointwise []

/-- The weight scales arrive as one row: the call's operand is the argument reshaped to 1 by 4096. -/
theorem V_row (c : Dev nD) (n : Fin 4096) :
    V m c main_v0 (ix2 0 n) = m ((c : Thread nD τ).loc main_arg3) (ix1 n) := by
  have e : V m c main_v0 = shapeCast S1x4096 (m ((c : Thread nD τ).loc main_arg3)) shapeCasts_S4096_S1x4096 := by
    rfl
  rw [e]
  exact row_cast _ n

theorem blk3 (c : Dev nD) (t : Fin cfg0.N) (n : Fin 4096) :
    iblk m c 3 t (ix2 0 n) = m ((c : Thread nD τ).loc main_arg3) (ix1 n) := by
  blk_simp [iblk]
  rw [← V_row m c]
  show V m c main_v0 _ = _
  congr 1
  blk_ext [idx3]

theorem blk4 (c : Dev nD) (t : Fin cfg0.N) (r : Fin 16384) (n : Fin 4096) :
    iblk m c 4 t (ix2 r n) = m ((c : Thread nD τ).loc main_arg4) (ix2 r n) := by
  blk_simp [iblk]
  show V m c main_arg4 _ = _
  rw [V_main_arg4]
  congr 1
  blk_ext [idx4]

theorem hz : (![0, 0] : Fin 2 → Nat) = fun _ => 0 := funext fun a => by fin_cases a <;> rfl

/-- What the body stores, over its input blocks: the one store's payload. -/
theorem out0_apply (x0 : Vec Ideal S16384x12288 .fp8e5m2) (x1 : Vec Ideal S16384x3 .f32) (x2 : Vec Ideal S4096x12288 .fp8e4m3)
    (x3 : Vec Ideal S1x4096 .f32) (x4 : Vec Ideal S16384x4096 .f32) : out0_5 x0 x1 x2 x3 x4 = k0_pay1 x0 x1 x2 x3 x4 := by
  unfold out0_5
  rw [View.canon_unit_zero hz, View.ld_unit_zero hz, View.ld_unit_zero hz, View.ld_unit_zero hz, View.ld_unit_zero hz,
    View.ld_unit_zero hz]

/-- The reference's result array, after the run. -/
theorem final_o (c : Dev nD) : (dats m 0 c).arrAt 5 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, n, hy⟩ : ∃ (r : Fin 16384) (n : Fin 4096), y = ix2 r n := ⟨y 0, y 1, eq_ix2 (n0 := 16384) (n1 := 4096) y⟩
  subst hy
  have e : (win0_5.blk t).view.emb (ix2 r n) = ix2 r n := by
    blk_ext [idx5]
  rw [e, out0_apply, pay_apply]
  simp only [blk0, blk1, blk2, blk3, blk4]
  rfl

end Cert.ReferenceIdeal.RefValue
-- ==== Proof.Algebra.lean ====
/-
  The one fact about numbers: a finite scale that is not negative goes in and out of a sum of extended reals, and a sum over
  12288 columns is the sum over its three thirds. (A negative or infinite scale does not: the sum may hold both infinities.)
-/
module

public import Idealize.ShloMosaic.Lib.Pointwise

@[expose] public section

noncomputable section

namespace Cert.ScaleSum

/-- A sum of extended reals times a finite scale `s ≥ 0` is the sum of the scaled terms. -/
theorem sum_mul {ι : Type*} (S : Finset ι) (f : ι → EReal) {s : EReal} (h0 : 0 ≤ s) (ht : s ≠ ⊤) :
    (∑ k ∈ S, f k) * s = ∑ k ∈ S, f k * s := by
  classical
  induction S using Finset.induction_on with
  | empty => simp
  | insert a S ha ih => rw [Finset.sum_insert ha, Finset.sum_insert ha, EReal.right_distrib_of_nonneg_of_ne_top h0 ht, ih]

/-- A sum over 12288 columns, a third at a time. -/
theorem sum_thirds (f : Fin 12288 → EReal) :
    ∑ k, f k = (∑ k : Fin 4096, f ⟨k.val, by omega⟩) + (∑ k : Fin 4096, f ⟨4096 + k.val, by omega⟩)
      + ∑ k : Fin 4096, f ⟨8192 + k.val, by omega⟩ := by
  rw [show (∑ k, f k) = ∑ k : Fin (4096 + 4096 + 4096), f k from rfl, Fin.sum_univ_add, Fin.sum_univ_add]
  rfl

end Cert.ScaleSum
-- ==== Proof.Pre.lean ====
/-
  The precondition, read at an index: every scale is at least zero and below infinity.
-/
module

public import proofs.«01_k».proof.Proof.Gen.Pre_pre_scale
public import Idealize.ShloMosaic.Lib.Pointwise

@[expose] public section

noncomputable section

open Idealize.ShloMosaic

namespace Cert.Pre_pre_scale.Read

open Cert.Pre_pre_scale

/-- Two comparisons hold together when the conjunction of their bits is one. -/
theorem and_bits (p q : Bool) : IntOp.andi (BitVec.ofBool p) (BitVec.ofBool q) = 1#1 ↔ p = true ∧ q = true := by
  cases p <;> cases q <;> decide

/-- A finite scale, at least zero, in every row and part. -/
theorem scale_bounds (a0 : Vec Ideal S16384x12288 .fp8e5m2) (a1 : Vec Ideal S16384x3 .f32) (a2 : Vec Ideal S4096x12288 .fp8e4m3)
    (a3 : Vec Ideal S4096 .f32) (a4 : Vec Ideal S16384x4096 .f32) (h : fn (F := Ideal) a0 a1 a2 a3 a4 = fun _ => 1#1)
    (r : Fin 16384) (p : Fin 3) : (0 : EReal) ≤ a1 (ix2 r p) ∧ (a1 (ix2 r p) : EReal) ≠ ⊤ := by
  have e := congrFun h (ix2 r p)
  revert e
  pointwise [fn]
  intro e
  obtain ⟨h0, h1⟩ := (and_bits _ _).mp e
  exact ⟨of_decide_eq_true h0, ne_top_of_lt (of_decide_eq_true h1)⟩

end Cert.Pre_pre_scale.Read
-- ==== Proof.DxClaim.lean ====
/-
  The claims about the matmul call: the frames, the rewriting that changes nothing, and that kernel and reference return the same
  array over the extended reals wherever the scales are finite and not negative.
-/
module

public import proofs.«01_k».proof.Defs
public import proofs.«01_k».proof.Proof.Gen.Kernel.Frame
public import proofs.«01_k».proof.Proof.KernelValue
public import proofs.«01_k».proof.Proof.RefValue
public import proofs.«01_k».proof.Proof.Algebra
public import proofs.«01_k».proof.Proof.Pre

@[expose] public section

set_option maxRecDepth 16384

noncomputable section

open Idealize.ShloMosaic Idealize.ShloMosaic.TcCoe Idealize.SL.Sem

namespace Cert.Proof.DxClaim

open Cert.KernelIdeal

/-- One part's share of the reference's product is the kernel's term for that part. -/
theorem part_eq (codes : Vec Ideal S16384x12288 .fp8e5m2) (scale : Vec Ideal S16384x3 .f32) (w : Vec Ideal S4096x12288 .fp8e4m3)
    (r : Fin 16384) (n : Fin 4096) (p : Fin 3) (h0 : (0 : EReal) ≤ scale (ix2 r p)) (ht : (scale (ix2 r p) : EReal) ≠ ⊤)
    (at_ : Fin 4096 → Fin 12288) (e : ∀ k, at_ k = RefValue.col p k) :
    (∑ k : Fin 4096, (codes (ix2 r (at_ k)) * scale (ix2 r (Cert.ReferenceIdeal.RefValue.part (at_ k)))) * w (ix2 n (at_ k)) : EReal)
      = RefValue.term codes scale w r n p := by
  unfold RefValue.term
  rw [Cert.ScaleSum.sum_mul _ _ h0 ht]
  refine Finset.sum_congr rfl fun k _ => ?_
  rw [e k, show Cert.ReferenceIdeal.RefValue.part (RefValue.col p k) = p from
    Fin.ext (by show (p.val * 4096 + k.val) / 4096 = p.val; omega)]
  exact mul_right_comm _ _ _

/-- The two result arrays are one function of the arguments when every scale is finite and not negative. -/
theorem out_eq (codes : Vec Ideal S16384x12288 .fp8e5m2) (scale : Vec Ideal S16384x3 .f32) (w : Vec Ideal S4096x12288 .fp8e4m3)
    (ws : Vec Ideal S4096 .f32) (dxhw : Vec Ideal S16384x4096 .f32)
    (h : ∀ (r : Fin 16384) (p : Fin 3), (0 : EReal) ≤ scale (ix2 r p) ∧ (scale (ix2 r p) : EReal) ≠ ⊤) :
    Cert.ReferenceIdeal.RefValue.out codes scale w ws dxhw = RefValue.out codes scale w ws dxhw := by
  funext i
  unfold Cert.ReferenceIdeal.RefValue.out RefValue.out
  rw [Cert.ScaleSum.sum_thirds,
    part_eq codes scale w (i 0) (i 1) 0 (h _ 0).1 (h _ 0).2 _ (fun k => Fin.ext (by show k.val = 0 * 4096 + k.val; omega)),
    part_eq codes scale w (i 0) (i 1) 1 (h _ 1).1 (h _ 1).2 _ (fun k => Fin.ext (by show 4096 + k.val = 1 * 4096 + k.val; omega)),
    part_eq codes scale w (i 0) (i 1) 2 (h _ 2).1 (h _ 2).2 _ (fun k => Fin.ext (by show 8192 + k.val = 2 * 4096 + k.val; omega))]

/-- The kernel runs to the end, leaves its arguments as they were and every semaphore at zero, as printed … -/
theorem frame_k : Cert.quiescent_Kernel := fun m ρ _ => Cert.Kernel.Gen.frame m ρ
/-- … over the extended reals … -/
theorem frame_ki : Cert.quiescent_KernelIdeal := fun m ρ _ => Cert.KernelIdeal.Gen.frame m ρ
theorem frame_ki_pre : Cert.quiescent_KernelIdeal_pre_pre_scale := fun m ρ _ => Cert.KernelIdeal.Gen.frame m ρ
/-- … and so does the reference. -/
theorem frame_ri : Cert.quiescent_ReferenceIdeal := fun m ρ _ => Cert.ReferenceIdeal.Gen.frame m ρ
theorem frame_ri_pre : Cert.quiescent_ReferenceIdeal_pre_pre_scale := fun m ρ _ => Cert.ReferenceIdeal.Gen.frame m ρ
/-- No operation was rewritten on the way to the extended reals. -/
theorem preserves : Cert.preserves_Kernel_KernelIdeal := trivial

/-- From memories that agree on the arguments, with finite scales that are not negative, both end with the same result array. -/
theorem algebraic : Cert.algebraic_KernelIdeal_ReferenceIdeal_pre_pre_scale := by
  intro m ρ m' ρ' hpre hagree
  refine ⟨fun c => RefValue.out (m ((c : Thread nD τ).loc main_arg0)) (m ((c : Thread nD τ).loc main_arg1))
      (m ((c : Thread nD τ).loc main_arg2)) (m ((c : Thread nD τ).loc main_arg3)) (m ((c : Thread nD τ).loc main_arg4)), ?_, ?_⟩
  · exact (θ_run Cert.KernelIdeal.defs _ _).mono (fun _ h c => ⟨(h c).1.trans (RefValue.final_o m c), (h c).2⟩)
      (Cert.KernelIdeal.Value.run_blocks (F := Ideal) m ρ)
  · refine (θ_run Cert.ReferenceIdeal.defs _ _).mono
      (fun _ h c => ⟨((h c).1.trans (Cert.ReferenceIdeal.RefValue.final_o m' c)).trans ?_, (h c).2⟩)
      (Cert.ReferenceIdeal.Value.run_blocks (F := Ideal) m' ρ')
    obtain ⟨e0, e1, e2, e3, e4⟩ := hagree c
    rw [e0, e1, e2, e3, e4]
    exact out_eq _ _ _ _ _ (Cert.Pre_pre_scale.Read.scale_bounds _ _ _ _ _ (hpre c))

end Cert.Proof.DxClaim
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre_scale
public import proofs.«01_k».proof.Proof.Gen.KernelIdeal.Value
public import proofs.«01_k».proof.Proof.Gen.ReferenceIdeal.Value
public import proofs.«01_k».proof.Proof.DxClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_pre_scale.Gen.facts,
  DxClaim.frame_k, DxClaim.frame_ki, DxClaim.frame_ki_pre, DxClaim.frame_ri, DxClaim.frame_ri_pre, DxClaim.preserves,
  DxClaim.algebraic⟩

end Cert.Proof

end
